-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x16384 : Shape := ⟨3, ![4, 4096, 16384]⟩
abbrev S256x256 : Shape := ⟨2, ![256, 256]⟩
abbrev S16384x16384 : Shape := ⟨2, ![16384, 16384]⟩
abbrev S16384x1 : Shape := ⟨2, ![16384, 1]⟩
abbrev S128x16384 : Shape := ⟨2, ![128, 16384]⟩
abbrev S128x1 : Shape := ⟨2, ![128, 1]⟩
abbrev S128x128 : Shape := ⟨2, ![128, 128]⟩
abbrev S128x256 : Shape := ⟨2, ![128, 256]⟩
abbrev S128 : Shape := ⟨1, ![128]⟩

abbrev nBuf : Space → Nat
  | .hbm => 5
  | .vmem => 8
  | .smem => 0
  | _ => 0

abbrev bufTy : (tb : Table) → Fin (tcTables nBuf tb) → BufTy
  | .hbm, ⟨0, _⟩ => ⟨S4x4096x16384, .bf16⟩
  | .hbm, ⟨1, _⟩ => ⟨S256x256, .bf16⟩
  | .hbm, ⟨2, _⟩ => ⟨S16384x16384, .bf16⟩
  | .hbm, ⟨3, _⟩ => ⟨S16384x1, .f32⟩
  | .hbm, ⟨4, _⟩ => ⟨S16384x16384, .fp8e4m3⟩
  | .local _ .vmem, ⟨0, _⟩ => ⟨S128x16384, .bf16⟩
  | .local _ .vmem, ⟨1, _⟩ => ⟨S128x16384, .bf16⟩
  | .local _ .vmem, ⟨2, _⟩ => ⟨S256x256, .bf16⟩
  | .local _ .vmem, ⟨3, _⟩ => ⟨S128x1, .f32⟩
  | .local _ .vmem, ⟨4, _⟩ => ⟨S128x1, .f32⟩
  | .local _ .vmem, ⟨5, _⟩ => ⟨S128x16384, .fp8e4m3⟩
  | .local _ .vmem, ⟨6, _⟩ => ⟨S128x16384, .fp8e4m3⟩
  | .local _ .vmem, ⟨7, _⟩ => ⟨S128x16384, .f32⟩
  | _, _ => ⟨S4x4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x4096x16384 : Shape := ⟨3, ![4, 4096, 16384]⟩
abbrev S128x128 : Shape := ⟨2, ![128, 128]⟩
abbrev S254 : Shape := ⟨1, ![254]⟩
abbrev S4x4096x128x128 : Shape := ⟨4, ![4, 4096, 128, 128]⟩
abbrev S_ : Shape := ⟨0, ![]⟩
abbrev S16384x16384 : Shape := ⟨2, ![16384, 16384]⟩
abbrev S16384 : Shape := ⟨1, ![16384]⟩
abbrev S16384x1 : Shape := ⟨2, ![16384, 1]⟩
abbrev S1x254 : Shape := ⟨2, ![1, 254]⟩
abbrev S16384x254 : Shape := ⟨2, ![16384, 254]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x16384, .bf16⟩
  | .hbm, ⟨1, _⟩ => ⟨S128x128, .bf16⟩
  | .hbm, ⟨2, _⟩ => ⟨S254, .f32⟩
  | .hbm, ⟨3, _⟩ => ⟨S4x4096x128x128, .bf16⟩
  | .hbm, ⟨4, _⟩ => ⟨S4x4096x128x128, .f32⟩
  | .hbm, ⟨5, _⟩ => ⟨S_, .f32⟩
  | .hbm, ⟨6, _⟩ => ⟨S4x4096x128x128, .f32⟩
  | .hbm, ⟨7, _⟩ => ⟨S4x4096x128x128, .f32⟩
  | .hbm, ⟨8, _⟩ => ⟨S16384x16384, .f32⟩
  | .hbm, ⟨9, _⟩ => ⟨S16384x16384, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S1x254, .f32⟩
  | .hbm, ⟨17, _⟩ => ⟨S16384x254, .f32⟩
  | .hbm, ⟨18, _⟩ => ⟨S16384x254, .f32⟩
  | .hbm, ⟨19, _⟩ => ⟨S16384x254, .i1⟩
  | .hbm, ⟨20, _⟩ => ⟨S16384x254, .i32⟩
  | .hbm, ⟨21, _⟩ => ⟨S_, .i32⟩
  | .hbm, ⟨22, _⟩ => ⟨S16384, .i32⟩
  | .hbm, ⟨23, _⟩ => ⟨S16384x1, .i32⟩
  | .hbm, ⟨24, _⟩ => ⟨S_, .i32⟩
  | .hbm, ⟨25, _⟩ => ⟨S16384x1, .i32⟩
  | .hbm, ⟨26, _⟩ => ⟨S16384x1, .i1⟩
  | .hbm, ⟨27, _⟩ => ⟨S_, .f32⟩
  | .hbm, ⟨28, _⟩ => ⟨S16384x1, .f32⟩
  | .hbm, ⟨29, _⟩ => ⟨S16384x1, .i1⟩
  | .hbm, ⟨30, _⟩ => ⟨S16384x1, .i1⟩
  | .hbm, ⟨31, _⟩ => ⟨S_, .i32⟩
  | .hbm, ⟨32, _⟩ => ⟨S16384x1, .i32⟩
  | .hbm, ⟨33, _⟩ => ⟨S16384x1, .i32⟩
  | .hbm, ⟨34, _⟩ => ⟨S_, .i32⟩
  | .hbm, ⟨35, _⟩ => ⟨S_, .i32⟩
  | .hbm, ⟨36, _⟩ => ⟨S16384x1, .i32⟩
  | .hbm, ⟨37, _⟩ => ⟨S16384x1, .i32⟩
  | .hbm, ⟨38, _⟩ => ⟨S_, .f32⟩
  | .hbm, ⟨39, _⟩ => ⟨S16384x1, .f32⟩
  | .hbm, ⟨40, _⟩ => ⟨S16384x1, .i1⟩
  | .hbm, ⟨41, _⟩ => ⟨S_, .i32⟩
  | .hbm, ⟨42, _⟩ => ⟨S16384x1, .i32⟩
  | .hbm, ⟨43, _⟩ => ⟨S16384x1, .i32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .i32⟩
  | .hbm, ⟨49, _⟩ => ⟨S16384x1, .i32⟩
  | .hbm, ⟨50, _⟩ => ⟨S16384x1, .i1⟩
  | .hbm, ⟨51, _⟩ => ⟨S_, .i32⟩
  | .hbm, ⟨52, _⟩ => ⟨S16384x1, .i32⟩
  | .hbm, ⟨53, _⟩ => ⟨S16384x1, .i1⟩
  | .hbm, ⟨54, _⟩ => ⟨S_, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1, .i32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .i32⟩
  | .hbm, ⟨68, _⟩ => ⟨S16384x1, .i32⟩
  | .hbm, ⟨69, _⟩ => ⟨S16384x1, .i1⟩
  | .hbm, ⟨70, _⟩ => ⟨S_, .i32⟩
  | .hbm, ⟨71, _⟩ => ⟨S16384x1, .i32⟩
  | .hbm, ⟨72, _⟩ => ⟨S16384x1, .i1⟩
  | .hbm, ⟨73, _⟩ => ⟨S_, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S16384x16384, .f32⟩
  | .hbm, ⟨82, _⟩ => ⟨S16384x16384, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S16384x16384, .f32⟩
  | .hbm, ⟨87, _⟩ => ⟨S16384x16384, .f32⟩
  | .hbm, ⟨88, _⟩ => ⟨S_, .f32⟩
  | .hbm, ⟨89, _⟩ => ⟨S16384x16384, .f32⟩
  | .hbm, ⟨90, _⟩ => ⟨S16384x16384, .f32⟩
  | .hbm, ⟨91, _⟩ => ⟨S16384x16384, .fp8e4m3⟩
  | _, _ => ⟨S4x4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩
abbrev main_c_7 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_c_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩
abbrev main_c_11 : Ref sig .tc := ⟨.hbm, 48, rfl⟩
abbrev main_v32 : Ref sig .tc := ⟨.hbm, 49, rfl⟩
abbrev main_v33 : Ref sig .tc := ⟨.hbm, 50, rfl⟩
abbrev main_c_12 : Ref sig .tc := ⟨.hbm, 51, rfl⟩
abbrev main_v34 : Ref sig .tc := ⟨.hbm, 52, rfl⟩
abbrev main_v35 : Ref sig .tc := ⟨.hbm, 53, rfl⟩
abbrev main_cst_13 : Ref sig .tc := ⟨.hbm, 54, rfl⟩
abbrev main_call2_v0 : Ref sig .tc := ⟨.hbm, 55, rfl⟩
abbrev main_call2_v1 : Ref sig .tc := ⟨.hbm, 56, rfl⟩
abbrev main_v36 : Ref sig .tc := ⟨.hbm, 57, rfl⟩
abbrev main_cst_14 : Ref sig .tc := ⟨.hbm, 58, rfl⟩
abbrev main_call3_v0 : Ref sig .tc := ⟨.hbm, 59, rfl⟩
abbrev main_call3_v1 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_15 : Ref sig .tc := ⟨.hbm, 64, rfl⟩
abbrev main_v40 : Ref sig .tc := ⟨.hbm, 65, rfl⟩
abbrev main_v41 : Ref sig .tc := ⟨.hbm, 66, rfl⟩
abbrev main_c_16 : Ref sig .tc := ⟨.hbm, 67, rfl⟩
abbrev main_v42 : Ref sig .tc := ⟨.hbm, 68, rfl⟩
abbrev main_v43 : Ref sig .tc := ⟨.hbm, 69, rfl⟩
abbrev main_c_17 : Ref sig .tc := ⟨.hbm, 70, rfl⟩
abbrev main_v44 : Ref sig .tc := ⟨.hbm, 71, rfl⟩
abbrev main_v45 : Ref sig .tc := ⟨.hbm, 72, rfl⟩
abbrev main_cst_18 : Ref sig .tc := ⟨.hbm, 73, rfl⟩
abbrev main_call4_v0 : Ref sig .tc := ⟨.hbm, 74, rfl⟩
abbrev main_call4_v1 : Ref sig .tc := ⟨.hbm, 75, rfl⟩
abbrev main_v46 : Ref sig .tc := ⟨.hbm, 76, rfl⟩
abbrev main_cst_19 : Ref sig .tc := ⟨.hbm, 77, rfl⟩
abbrev main_call5_v0 : Ref sig .tc := ⟨.hbm, 78, rfl⟩
abbrev main_call5_v1 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_20 : Ref sig .tc := ⟨.hbm, 83, rfl⟩
abbrev main_cst_21 : Ref sig .tc := ⟨.hbm, 84, rfl⟩
abbrev main_call6_v0 : Ref sig .tc := ⟨.hbm, 85, rfl⟩
abbrev main_call6_v1 : Ref sig .tc := ⟨.hbm, 86, rfl⟩
abbrev main_call6_v2 : Ref sig .tc := ⟨.hbm, 87, rfl⟩
abbrev main_call6_v3 : Ref sig .tc := ⟨.hbm, 88, rfl⟩
abbrev main_call6_v4 : Ref sig .tc := ⟨.hbm, 89, rfl⟩
abbrev main_v50 : Ref sig .tc := ⟨.hbm, 90, rfl⟩
abbrev main_v51 : Ref sig .tc := ⟨.hbm, 91, rfl⟩

abbrev nD : Nat := 1
abbrev τ : Topo := Topo.v7x

variable {F : FTy → Type} [FloatOps F]
-- ==== Proof.Chunks.lean ====
/- The kernel body of the idealized program in one vocabulary: one chunk of 256 columns, rotated; the running maximum of magnitudes over the
   chunks, lane by lane; the row maximum; the exponent field counted from it; the quantised chunk. What the body stores is stated in these words. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem

/-- Chunk `n` of a block row tile: the columns from `256 n` on, 256 of them, lie inside the 16384. -/
theorem inb (n : ℕ) (h : n < 64) : ∀ a : Fin 2, (![0, 256 * n] : Fin 2 → ℕ) a + (![128, 256] : Fin 2 → ℕ) a ≤ S128x16384.size a := by
  intro a
  match a with
  | 0 => show 0 + 128 ≤ 128; omega
  | 1 => show 256 * n + 256 ≤ 16384; omega

/-- Chunk `n` of the block's rows: 256 columns. -/
def chunk (x0 : Vec Ideal S128x16384 .bf16) (n : ℕ) (h : n < 64) : Vec Ideal S128x256 .bf16 :=
  View.ld x0 (Rect.unit ![0, 256 * n] ![128, 256] (inb n h))

/-- One chunk times the 256 × 256 block-diagonal matrix, times the norm. -/
def rot (x1 : Vec Ideal S256x256 .bf16) (xc : Vec Ideal S128x256 .bf16) : FVec Ideal S128x256 .f32 :=
  k0_pay3 x1 xc

/-- The larger of the two magnitudes a lane carries: the chunk's left half and its right half. -/
def halves (r : FVec Ideal S128x256 .f32) : FVec Ideal S128x128 .f32 :=
  maximumf (extractStridedSlice S128x128 ![0, 0] (absf r) slices_S128x256_o0_0_S128x128)
    (extractStridedSlice S128x128 ![0, 128] (absf r) slices_S128x256_o0_128_S128x128)

/-- The running maximum, lane by lane, after the first `n` chunks; it starts at zero. -/
def lanes (x0 : Vec Ideal S128x16384 .bf16) (x1 : Vec Ideal S256x256 .bf16) : (n : ℕ) → n ≤ 64 → FVec Ideal S128x128 .f32
  | 0, _ => broadcast S128x128 (Scalar.ofBits (F := Ideal) .f32 0x00000000#32)
  | n + 1, h => maximumf (lanes x0 x1 n (Nat.le_of_succ_le h)) (halves (rot x1 (chunk x0 n h)))

/-- The row maximum: the maximum over the 128 lanes. -/
def rowMax (x0 : Vec Ideal S128x16384 .bf16) (x1 : Vec Ideal S256x256 .bf16) : FVec Ideal S128x1 .f32 :=
  shapeCast S128x1 (multiReduction (F := Ideal) .maximumf [1] S128 (lanes x0 x1 64 (le_refl 64)) 0xFF800000#32 reduces_S128x128_S128 (.inl rfl) rfl)
    shapeCasts_S128_S128x1

/-- The exponent of `a / 448` as the kernel finds it: the number of patterns `k << 23` that `a / 448` reaches, less one, is the exponent field;
    the exponent is the field less 126, and 0 where the field is 0 or 255. -/
def expOf (a : FVec Ideal S128x1 .f32) : IVec S128x1 32 :=
  have v837 : FVec Ideal S128x1 .f32 := mulf a (broadcast S128x1 (Scalar.ofBits (F := Ideal) .f32 0x3B124925#32))
  have v841 : FVec Ideal S128x256 .f32 := bitcastToFloat .f32 (shli (iota .tc S128x256 32 [1] iota_S128x256_d1_w32) (broadcast S128x256 23#32))
  have v843 : IVec S128x256 1 := cmpf .oge (broadcastTo S128x256 v837 broadcasts_S128x1_S128x256) v841
  have v845 : IVec S128 32 := multiReductionI .add [1] S128 (extui 32 v843 natLt_1_32) 0#32 reduces_S128x256_S128 rfl
  have v848 : IVec S128x1 32 := subi (shapeCast S128x1 v845 shapeCasts_S128_S128x1) (broadcast S128x1 1#32)
  select (ori (cmpi .sle v848 (broadcast S128x1 0#32)) (cmpi .eq v848 (broadcast S128x1 255#32))) (broadcast S128x1 0#32)
    (subi v848 (broadcast S128x1 126#32))

/-- The scale of a row whose maximum is `a`. -/
def scaleOf (a : FVec Ideal S128x1 .f32) : FVec Ideal S128x1 .f32 :=
  k0_pay155 a (expOf a) (Scalar.ofBits (F := Ideal) .f32 0x00000000#32)

/-- The reciprocal scale of a row whose maximum is `a`. -/
def invOf (a : FVec Ideal S128x1 .f32) : FVec Ideal S128x1 .f32 :=
  k0_pay156 a (expOf a) (Scalar.ofBits (F := Ideal) .f32 0x00000000#32)

/-- One rotated chunk quantised: times the reciprocal scale, clipped, rounded to fp8. -/
def codes (inv : FVec Ideal S128x1 .f32) (r : FVec Ideal S128x256 .f32) : FVec Ideal S128x256 .fp8e4m3 :=
  k0_pay2 inv r

set_option maxHeartbeats 300000 in
/-- What the body stores as scales. -/
theorem out_scales (m : (ℓ : Loc nD τ sig) → Buf (Elt Ideal) ℓ) (c : Dev nD) (t : Fin cfg0.N) :
    (outsAt0 m c t).1 = scaleOf (rowMax (iblk m c 0 t) (iblk m c 1 t)) := by
  unfold outsAt0
  frame_open
  simp (disch := decide) only [↓ View.readCov_skip, ↓ View.readCov_cons_toLoadRect, ↓ View.readCov_fill]
  frame_out
  unfold scaleOf
  have h : ∀ p q, p = q → k0_pay155 (F := Ideal) p (expOf p) (Scalar.ofBits (F := Ideal) .f32 0x00000000#32) = k0_pay155 q (expOf q) (Scalar.ofBits (F := Ideal) .f32 0x00000000#32) := by
    rintro p _ rfl; rfl
  refine h _ _ ?_
  unfold rowMax
  simp only [lanes]
  open_payloads
  rfl

/-- The row maximum at any name of it that unfolds to it. -/
theorem inv_congr (p q : FVec Ideal S128x1 .f32) (h : p = q) :
    k0_pay156 (F := Ideal) p (expOf p) (Scalar.ofBits (F := Ideal) .f32 0x00000000#32) = invOf q := by
  subst h; rfl

/-- The code at an index of the block, found through the chunk that holds its column. -/
def codeAt (x0 : Vec Ideal S128x16384 .bf16) (x1 : Vec Ideal S256x256 .bf16) (inv : FVec Ideal S128x1 .f32) (y : S128x16384.Idx) :
    Ideal .fp8e4m3 :=
  codes inv (rot x1 (chunk x0 ((y 1).val / 256) (by have := (y 1).isLt; change (y 1).val < 16384 at this; omega)))
    (ix2 (n0 := 128) (n1 := 256) ⟨(y 0).val, (y 0).isLt⟩ ⟨(y 1).val % 256, Nat.mod_lt _ (by decide)⟩)

/-- The code at column `off + x 1`, where `off` is the first column of a chunk, is that chunk's code at `x`. -/
theorem codeAt_eq (x0 : Vec Ideal S128x16384 .bf16) (x1 : Vec Ideal S256x256 .bf16) (inv : FVec Ideal S128x1 .f32) (y : S128x16384.Idx)
    (x : S128x256.Idx) (off : ℕ) (h0 : (y 0).val = (x 0).val) (h1 : (y 1).val = off + (x 1).val) (hm : off % 256 = 0)
    (hb : ∀ a : Fin 2, (![0, off] : Fin 2 → ℕ) a + (![128, 256] : Fin 2 → ℕ) a ≤ S128x16384.size a) :
    codes inv (shapeCast S128x256 (rot x1 (View.ld x0 (Rect.unit ![0, off] ![128, 256] hb))) shapeCasts_S128x256_S128x256) x =
      codeAt x0 x1 inv y := by
  rw [shapeCast_self]
  have hx : (x 1).val < 256 := (x 1).isLt
  have hd : (y 1).val / 256 = off / 256 := by omega
  have hr : (y 1).val % 256 = (x 1).val := by omega
  have ho : off = 256 * ((y 1).val / 256) := by omega
  unfold codeAt chunk
  subst ho
  congr 1
  funext a
  match a with
  | 0 => exact Fin.ext h0.symm
  | 1 => exact Fin.ext hr.symm

set_option maxHeartbeats 2000000 in
/-- What the body stores as codes. -/
theorem out_codes (m : (ℓ : Loc nD τ sig) → Buf (Elt Ideal) ℓ) (c : Dev nD) (t : Fin cfg0.N) (y : S128x16384.Idx) :
    (outsAt0 m c t).2 y = codeAt (iblk m c 0 t) (iblk m c 1 t) (invOf (rowMax (iblk m c 0 t) (iblk m c 1 t))) y := by
  unfold outsAt0
  frame_open
  simp (disch := decide) only [↓ View.readCov_skip, ↓ View.readCov_cons_toLoadRect, ↓ View.readCov_fill]
  frame_out
  simp only [k0_pay157, k0_pay158]
  generalize hi : k0_pay156 (F := Ideal) _ _ _ = inv
  have hinv : inv = invOf (rowMax (iblk m c 0 t) (iblk m c 1 t)) := by
    rw [← hi]
    refine inv_congr _ _ ?_
    unfold rowMax
    simp only [lanes]
    open_payloads
    rfl
  rw [← hinv]
  clear hi hinv
  canon_tiles x h
  case piece63 => exact codeAt_eq _ _ _ _ x 0 h0 (by omega) (by decide) inb_S128x16384_S128x256_0_0
  all_goals
    refine Eq.trans ?_ (codeAt_eq _ _ inv _ x _ h0 h1 (by decide) (by intro a; match a with | 0 => decide | 1 => decide))
    open_payloads
    rfl

end Cert.KernelIdeal.Body

end
-- ==== Proof.Reference.lean ====
/- The reference of the idealized program in one vocabulary: the rotated rows, the row maximum of magnitudes, the exponent of the scaled maximum, a power
   of two, the scales and the codes. The two result terms of its run are these words. -/
module

public import proofs.«01_k».proof.Proof.Gen.ReferenceIdeal.Run
public import Idealize.ShloMosaic.Lib.Pointwise

@[expose] public section

set_option maxRecDepth 16384

noncomputable section

namespace Cert.ReferenceIdeal.Words

open Cert.ReferenceIdeal Cert.ReferenceIdeal.Gen Idealize.ShloMosaic Idealize.ShloMosaic.TcCoe Idealize.SL.Sem Idealize.ShloMosaic.StableHlo

/-- The Hadamard matrix of order 128, read from the printed table. -/
def had : FVec Ideal S128x128 .bf16 := fun i => FloatOps.ofBits .bf16 (lit0 (S128x128.rowMajor i))

/-- The rotated rows: every 128 columns of the argument times the Hadamard matrix, times the norm, laid out in 16384 rows. -/
def rot (x : FVec Ideal S4x4096x16384 .bf16) : FVec Ideal S16384x16384 .f32 :=
  shapeCast _ (mulf (Host.dotGeneral dot_S4x4096x128x128_S128x128_S4x4096x128x128_3_0_012_1_n_n none
    (shapeCast _ x shapeCasts_S4x4096x16384_S4x4096x128x128) had)
    (broadcastInDim S4x4096x128x128 ![] bcast_S_S4x4096x128x128 (constant S_ .f32 0x3DB504F3#32))) shapeCasts_S4x4096x128x128_S16384x16384

/-- The largest magnitude of each row. -/
def amax (r : FVec Ideal S16384x16384 .f32) : FVec Ideal S16384x1 .f32 :=
  broadcastInDim S16384x1 ![0] bcast_S16384_S16384x1_0
    (Host.reduce FloatOps.maximumf (Host.absf r) (constant S_ .f32 0xFF800000#32) reducesTo_S16384x16384_S16384_d1 h_S_)

/-- The row maximum over the largest code. -/
def scaled (a : FVec Ideal S16384x1 .f32) : FVec Ideal S16384x1 .f32 :=
  mulf a (broadcastInDim S16384x1 ![] bcast_S_S16384x1 (constant S_ .f32 0x3B124925#32))

/-- How many of the 254 powers of two the number reaches. -/
def count (v : FVec Ideal S16384x1 .f32) : IVec S16384x1 32 :=
  broadcastInDim S16384x1 ![0] bcast_S16384_S16384x1_0
    (Host.reduce IntOp.addi (extui 32 (cmpf .oge (broadcastInDim S16384x254 ![0, 1] bcast_S16384x1_S16384x254_0_1 v)
      (broadcastInDim S16384x254 ![0, 1] bcast_S1x254_S16384x254_0_1
        (broadcastInDim S1x254 ![1] bcast_S254_S1x254_1 (fun i => FloatOps.ofBits .f32 (lit1 (S254.rowMajor i)))))) natLt_1_32)
      (constantI S_ 32 0#32) reducesTo_S16384x254_S16384_d1 h_S_)

/-- The exponent of a number: zero at zero and at infinity, else the count less 126. -/
def expOf (v : FVec Ideal S16384x1 .f32) : IVec S16384x1 32 :=
  select (ori (cmpi .eq (count v) (broadcastInDim S16384x1 ![] bcast_S_S16384x1 (constantI S_ 32 0#32)))
      (cmpf .oeq v (broadcastInDim S16384x1 ![] bcast_S_S16384x1 (constant S_ .f32 0x7F800000#32))))
    (broadcastInDim S16384x1 ![] bcast_S_S16384x1 (id (constantI S_ 32 0#32)))
    (subi (count v) (broadcastInDim S16384x1 ![] bcast_S_S16384x1 (constantI S_ 32 126#32)))

/-- The exponent of a row's scale: zero for a row of zeros. -/
def rowExp (a : FVec Ideal S16384x1 .f32) : IVec S16384x1 32 :=
  select (cmpf .oeq a (broadcastInDim S16384x1 ![] bcast_S_S16384x1 (constant S_ .f32 0x00000000#32)))
    (broadcastInDim S16384x1 ![] bcast_S_S16384x1 (constantI S_ 32 0#32)) (expOf (scaled a))

/-- Two to a power, zero below the normal range and infinity above it. -/
def power (n : IVec S16384x1 32) : FVec Ideal S16384x1 .f32 :=
  select (cmpi .slt n (broadcastInDim S16384x1 ![] bcast_S_S16384x1 (constantI S_ 32 4294967170#32)))
    (broadcastInDim S16384x1 ![] bcast_S_S16384x1 (id (constant S_ .f32 0x00000000#32)))
    (select (cmpi .sgt n (broadcastInDim S16384x1 ![] bcast_S_S16384x1 (constantI S_ 32 127#32)))
      (broadcastInDim S16384x1 ![] bcast_S_S16384x1 (id (constant S_ .f32 0x7F800000#32)))
      (Host.powf (broadcastInDim S16384x1 ![] bcast_S_S16384x1 (constant S_ .f32 0x40000000#32)) (sitofp .f32 n)))

/-- The rows times their inverse scales, cut to the range of the codes, as codes. -/
def codes (r : FVec Ideal S16384x16384 .f32) (inv : FVec Ideal S16384x1 .f32) : FVec Ideal S16384x16384 .fp8e4m3 :=
  Host.convertf .fp8e4m3 (minimumf (broadcastInDim S16384x16384 ![] bcast_S_S16384x16384 (id (constant S_ .f32 0x43E00000#32)))
    (maximumf (broadcastInDim S16384x16384 ![] bcast_S_S16384x16384 (id (constant S_ .f32 0xC3E00000#32)))
      (mulf r (broadcastInDim S16384x16384 ![0, 1] bcast_S16384x1_S16384x16384_0_1 inv))))

/-- The scales the reference returns, in these words. -/
theorem out_scales (m : (ℓ : Loc nD τ sig) → Buf (Elt Ideal) ℓ) (c : Dev nD) :
    Value.res_main_v37 m c = power (rowExp (amax (rot (m ((c.tc : Thread nD τ).loc main_arg0))))) := by
  unfold Value.res_main_v37 power rowExp expOf count scaled amax rot had
  rfl

/-- The codes the reference returns, in these words. -/
theorem out_codes (m : (ℓ : Loc nD τ sig) → Buf (Elt Ideal) ℓ) (c : Dev nD) :
    Value.res_main_v51 m c = codes (rot (m ((c.tc : Thread nD τ).loc main_arg0)))
      (power (negi (rowExp (amax (rot (m ((c.tc : Thread nD τ).loc main_arg0))))))) := by
  unfold Value.res_main_v51 codes power rowExp expOf count scaled amax rot had
  rfl

end Cert.ReferenceIdeal.Words

end
-- ==== Proof.Exponent.lean ====
/- The exponent and the power of two over the extended reals: the kernel's count over 256 exponent fields against the reference's count over 254 powers,
   and the kernel's power built from an exponent field against the reference's two raised to the exponent. -/
module

public import Idealize.ShloMosaic.Lib.Pointwise

@[expose] public section

set_option maxRecDepth 16384

noncomputable section

namespace Cert.Exponent

open Idealize.ShloMosaic

/-- One when `p` is at most `v`, zero otherwise, as a word. -/
def bit (p v : EReal) : BitVec 32 := BitVec.setWidth 32 (BitVec.ofBool (decide (p ≤ v)))

/-- The same as a number. -/
def hit (p v : EReal) : ℕ := if p ≤ v then 1 else 0

theorem hit_of_le {p v : EReal} (h : p ≤ v) : hit p v = 1 := if_pos h

theorem hit_of_not_le {p v : EReal} (h : ¬ p ≤ v) : hit p v = 0 := if_neg h

theorem hit_le (p v : EReal) : hit p v ≤ 1 := by
  unfold hit; split <;> omega

theorem bit_eq (p v : EReal) : bit p v = BitVec.ofNat 32 (hit p v) := by
  by_cases h : p ≤ v <;> simp [bit, hit, h]

/-- The word sum of bits is the word of their number. -/
theorem fold_bits {n : ℕ} (f : Fin n → EReal) (v : EReal) :
    Finset.fold IntOp.addi (0#32) (fun x => bit (f x) v) Finset.univ = BitVec.ofNat 32 (∑ x, hit (f x) v) := by
  have key : ∀ s : Finset (Fin n), Finset.fold IntOp.addi (0#32) (fun x => bit (f x) v) s = BitVec.ofNat 32 (∑ x ∈ s, hit (f x) v) := by
    intro s
    induction s using Finset.induction_on with
    | empty => simp
    | insert a s ha ih =>
      rw [Finset.sum_insert ha, Finset.fold_insert ha, ih, bit_eq, BitVec.ofNat_add]
      rfl
  exact key Finset.univ

/-- The number whose exponent field is `k` and whose other bits are zero. -/
def pw (k : ℕ) : EReal := Ideal.ofBits .f32 (IntOp.shli ArithUnit.vector (BitVec.ofNat 32 k) 23#32)

theorem pw_words : ∀ k : Fin 256,
    ((IntOp.shli ArithUnit.vector (BitVec.ofNat 32 k) 23#32).extractLsb' 31 1 == 1#1) = false
    ∧ ((IntOp.shli ArithUnit.vector (BitVec.ofNat 32 k) 23#32).extractLsb' 23 8).toNat = k.val
    ∧ ((IntOp.shli ArithUnit.vector (BitVec.ofNat 32 k) 23#32).extractLsb' 0 23).toNat = 0 := by
  decide +kernel

theorem pw_eq (k : Fin 256) : pw k = if k.val = 255 then ⊤ else if k.val = 0 then 0 else (((2 : ℝ) ^ ((k.val : ℤ) - 127) : ℝ) : EReal) := by
  obtain ⟨h1, h2, h3⟩ := pw_words k
  show Ideal.ieee 8 23 _ = _
  unfold Ideal.ieee
  simp only [h1, h2, h3]
  by_cases a : k.val = 255
  · simp [a]
  · by_cases b : k.val = 0
    · simp [b]
    · have h : (2 : ℝ) ^ ((k.val : ℤ) - 127) = 2 ^ 23 * (2 : ℝ) ^ ((k.val : ℤ) - 127 - 23) := by
        rw [zpow_sub₀ (by norm_num : (2 : ℝ) ≠ 0) _ 23]
        field_simp
      rw [if_neg a, if_neg b]
      simp [a, b, h, -EReal.coe_mul]
      norm_num

/-- The exponent field of zero is zero's. -/
theorem pw_zero : pw 0 = 0 := by simpa using pw_eq 0

/-- The exponent field of all ones is infinity's. -/
theorem pw_top : pw 255 = ⊤ := by simpa using pw_eq 255

/-- Between them the exponent field `k` is the power `2 ^ (k - 127)`. -/
theorem pw_mid {k : ℕ} (h1 : 1 ≤ k) (h2 : k ≤ 254) : pw k = (((2 : ℝ) ^ ((k : ℤ) - 127) : ℝ) : EReal) := by
  have := pw_eq ⟨k, by omega⟩
  rwa [if_neg (by show ¬ k = 255; omega), if_neg (by show ¬ k = 0; omega)] at this

/-- The kernel's exponent field of a number: the fields whose number it reaches, less one. -/
def field (v : EReal) : BitVec 32 := Finset.fold IntOp.addi (0#32) (fun x : Fin 256 => bit (pw x) v) Finset.univ

/-- How many of the 254 normal powers of two the number reaches. -/
def hits (v : EReal) : ℕ := ∑ x : Fin 254, hit (pw (x.val + 1)) v

/-- The reference's count: their number as a word. -/
def count (v : EReal) : BitVec 32 := Finset.fold IntOp.addi (0#32) (fun x : Fin 254 => bit (pw (x.val + 1)) v) Finset.univ

theorem count_eq (v : EReal) : count v = BitVec.ofNat 32 (hits v) := fold_bits _ v

theorem hits_le (v : EReal) : hits v ≤ 254 := by
  have := Finset.sum_le_sum (fun (x : Fin 254) (_ : x ∈ Finset.univ) => hit_le (pw (x.val + 1)) v)
  simpa [hits] using this

/-- Infinity reaches all of them. -/
theorem hits_top : hits ⊤ = 254 := by
  have h : ∀ p : EReal, hit p ⊤ = 1 := fun p => hit_of_le le_top
  unfold hits
  simp only [h]
  simp

/-- Over the numbers from zero on the kernel's field, less one, is that number, and one more at infinity. -/
theorem field_eq {v : EReal} (h : 0 ≤ v) : IntOp.subi (field v) 1#32 = BitVec.ofNat 32 (hits v + if v = ⊤ then 1 else 0) := by
  unfold field
  rw [fold_bits, Fin.sum_univ_succ, Fin.sum_univ_castSucc]
  have h0 : hit (pw ((0 : Fin 256) : ℕ)) v = 1 := hit_of_le (by simpa [pw_zero] using h)
  have h1 : hit (pw (Fin.succ (Fin.last 254) : Fin 256)) v = if v = ⊤ then 1 else 0 := by
    show hit (pw 255) v = _
    rw [pw_top]
    by_cases t : v = ⊤
    · rw [if_pos t, hit_of_le (by simp [t])]
    · rw [if_neg t, hit_of_not_le (by simpa using t)]
  rw [h0, h1]
  show BitVec.ofNat 32 (1 + (hits v + _)) - 1#32 = _
  rw [BitVec.ofNat_add, BitVec.add_comm, BitVec.add_sub_cancel]

/-- The reference's exponent of a number. -/
def expR (v : EReal) : BitVec 32 :=
  Scalar.select (IntOp.ori (IntOp.cmpi .eq (count v) 0#32) (BitVec.ofBool (decide (v = ⊤)))) 0#32 (IntOp.subi (count v) 126#32)

/-- The kernel's exponent of a number. -/
def expK (v : EReal) : BitVec 32 :=
  Scalar.select (IntOp.ori (IntOp.cmpi .sle (IntOp.subi (field v) 1#32) 0#32) (IntOp.cmpi .eq (IntOp.subi (field v) 1#32) 255#32))
    0#32 (IntOp.subi (IntOp.subi (field v) 1#32) 126#32)

theorem cmps_of_le : ∀ n : Fin 255, IntOp.cmpi .sle (BitVec.ofNat 32 n) 0#32 = IntOp.cmpi .eq (BitVec.ofNat 32 n) 0#32
    ∧ IntOp.cmpi .eq (BitVec.ofNat 32 n) 255#32 = 0#1 := by decide +kernel

/-- The reference's count is the word of a number at most 254. -/
theorem count_word (v : EReal) : ∃ k : Fin 255, count v = BitVec.ofNat 32 k ∧ hits v = k :=
  ⟨⟨hits v, by have := hits_le v; omega⟩, count_eq v, rfl⟩

/-- From zero on the kernel's exponent is the reference's. -/
theorem expK_eq {v : EReal} (h : 0 ≤ v) : expK v = expR v := by
  unfold expK expR
  rw [field_eq h]
  by_cases t : v = ⊤
  · subst t
    rw [count_eq, hits_top, if_pos rfl]; simp only [decide_true]; decide
  · obtain ⟨k, hk, hn⟩ := count_word v
    rw [if_neg t, hk, hn, Nat.add_zero, (cmps_of_le k).1, (cmps_of_le k).2]
    simp [t]

/-- The range of the exponent: from -125 to 128. -/
def InRange (e : BitVec 32) : Prop := ∃ k : Fin 254, e = BitVec.ofInt 32 ((k.val : ℤ) - 125)

theorem inRange_zero : InRange 0#32 := ⟨⟨125, by norm_num⟩, by decide⟩

theorem inRange_words : ∀ n : Fin 255, n.val ≠ 0 → IntOp.subi (BitVec.ofNat 32 n) 126#32 = BitVec.ofInt 32 (((n.val - 1 : ℕ) : ℤ) - 125) := by
  decide +kernel

/-- The exponent is in the range. -/
theorem inRange_expR (v : EReal) : InRange (expR v) := by
  unfold expR
  obtain ⟨k, hk, -⟩ := count_word v
  by_cases t : v = ⊤
  · simp only [t, decide_true]
    generalize IntOp.cmpi .eq _ _ = b
    have : IntOp.ori b (BitVec.ofBool true) = 1#1 := by revert b; decide
    rw [this]; exact inRange_zero
  · by_cases z : k.val = 0
    · rw [hk, z]
      generalize BitVec.ofBool _ = b
      have : IntOp.ori (IntOp.cmpi .eq (BitVec.ofNat 32 0) 0#32) b = 1#1 := by revert b; decide
      rw [this]; exact inRange_zero
    · have hz : IntOp.cmpi .eq (BitVec.ofNat 32 k) 0#32 = 0#1 := by
        have : ∀ n : Fin 255, n.val ≠ 0 → IntOp.cmpi .eq (BitVec.ofNat 32 n) 0#32 = 0#1 := by decide +kernel
        exact this k z
      rw [hk, hz]
      simp only [t, decide_false]
      show InRange (IntOp.subi _ _)
      rw [inRange_words k z]
      exact ⟨⟨k.val - 1, by omega⟩, rfl⟩

/-- The kernel's power of two: the exponent, moved to the field's origin and kept between 0 and 255, in the exponent field. -/
def powK (e : BitVec 32) : EReal :=
  Ideal.ofBits .f32 (IntOp.shli ArithUnit.vector (IntOp.minsi 255#32 (IntOp.maxsi 0#32 (IntOp.addi e 127#32))) 23#32)

/-- The reference's power of two: zero below -126, infinity above 127, else two raised to the exponent. -/
def powR (e : BitVec 32) : EReal :=
  Scalar.select (IntOp.cmpi .slt e 4294967170#32) 0
    (Scalar.select (IntOp.cmpi .sgt e 127#32) ⊤ (Ideal.pow (Ideal.ofBits .f32 1073741824#32) (FloatOps.sitofp (F := Ideal) .f32 e)))

theorem ofBits_two : Ideal.ofBits .f32 1073741824#32 = ((2 : ℝ) : EReal) := by
  simp [Ideal.ofBits, Ideal.ieee, -EReal.coe_mul]; norm_num

theorem power_words : ∀ k : Fin 257,
    IntOp.minsi 255#32 (IntOp.maxsi 0#32 (IntOp.addi (BitVec.ofInt 32 ((k.val : ℤ) - 128)) 127#32)) = BitVec.ofNat 32 (k.val - 1)
    ∧ IntOp.cmpi .slt (BitVec.ofInt 32 ((k.val : ℤ) - 128)) 4294967170#32 = BitVec.ofBool (decide (k.val < 2))
    ∧ IntOp.cmpi .sgt (BitVec.ofInt 32 ((k.val : ℤ) - 128)) 127#32 = BitVec.ofBool (decide (k.val = 256))
    ∧ (BitVec.ofInt 32 ((k.val : ℤ) - 128)).toInt = (k.val : ℤ) - 128 := by decide +kernel

/-- From -128 to 128 the two powers agree. -/
theorem pow_eq (k : Fin 257) : powK (BitVec.ofInt 32 ((k.val : ℤ) - 128)) = powR (BitVec.ofInt 32 ((k.val : ℤ) - 128)) := by
  obtain ⟨h1, h2, h3, h4⟩ := power_words k
  unfold powK powR
  rw [h1, h2, h3]
  show pw (k.val - 1) = _
  by_cases a : k.val < 2
  · rw [show k.val - 1 = 0 by omega, pw_zero]
    simp [a, Scalar.select]
  · by_cases b : k.val = 256
    · rw [b]; exact pw_top
    · rw [pw_mid (by omega) (by omega), ofBits_two]
      simp only [a, b, decide_false]
      rw [show ∀ p q : EReal, Scalar.select (BitVec.ofBool false) p q = q from fun _ _ => rfl,
        show ∀ p q : EReal, Scalar.select (BitVec.ofBool false) p q = q from fun _ _ => rfl]
      show _ = Ideal.pow _ ((((BitVec.ofInt 32 ((k.val : ℤ) - 128)).toInt : ℝ)) : EReal)
      rw [h4, Ideal.pow_coe_coe]
      show _ = (((2 : ℝ) ^ ((((k.val : ℤ) - 128 : ℤ)) : ℝ) : ℝ) : EReal)
      rw [Real.rpow_intCast]
      congr 2
      omega

/-- At an exponent in the range the powers agree. -/
theorem pow_of_inRange {e : BitVec 32} (h : InRange e) : powK e = powR e := by
  obtain ⟨k, rfl⟩ := h
  have := pow_eq ⟨k.val + 3, by omega⟩
  rwa [show (((⟨k.val + 3, by omega⟩ : Fin 257).val : ℤ) - 128) = (k.val : ℤ) - 125 by push_cast; ring] at this

theorem neg_words : ∀ k : Fin 254, IntOp.subi 0#32 (BitVec.ofInt 32 ((k.val : ℤ) - 125)) = BitVec.ofInt 32 (((253 - k.val : ℕ) : ℤ) - 128) := by
  decide +kernel

/-- At the negative of an exponent in the range the powers agree. -/
theorem pow_neg_of_inRange {e : BitVec 32} (h : InRange e) : powK (IntOp.subi 0#32 e) = powR (IntOp.subi 0#32 e) := by
  obtain ⟨k, rfl⟩ := h
  rw [neg_words]
  exact pow_eq ⟨253 - k.val, by omega⟩

end Cert.Exponent

end
-- ==== Proof.Numbers.lean ====
/- Facts of the extended reals that both programs' values rest on: magnitudes, the scale factor's sign, the block-diagonal sum, the exponent of a row. -/
module

public import proofs.«01_k».proof.Proof.Exponent

@[expose] public section

noncomputable section

namespace Cert.Numbers

open Idealize.ShloMosaic Cert.Exponent

/-- The magnitude is at least zero. -/
theorem absf_nonneg (x : Ideal .f32) : (0 : EReal) ≤ FloatOps.absf (F := Ideal) x := by
  show (0 : EReal) ≤ max x (-x)
  rcases le_total (0 : EReal) x with h | h
  · exact le_max_of_le_left h
  · exact le_max_of_le_right (EReal.neg_nonneg.mpr h)

theorem ofBits_negInf : Ideal.ofBits .f32 4286578688#32 = ⊥ := by
  simp [Ideal.ofBits, Ideal.ieee]

theorem ofBits_inf : Ideal.ofBits .f32 2139095040#32 = ⊤ := by
  simp [Ideal.ofBits, Ideal.ieee]

/-- The reciprocal of the largest code is at least zero. -/
theorem recip_nonneg : 0 ≤ Ideal.ofBits .f32 991054117#32 := by
  simp [Ideal.ofBits, Ideal.ieee, -EReal.coe_mul]

/-- A sum over 256 places against a column of a block-diagonal matrix is the sum over the 128 places of the column's block. -/
theorem sum_block (X H : Fin 256 → EReal) (h : Fin 2) (G : Fin 128 → EReal)
    (hin : ∀ k : Fin 128, H ⟨128 * h.val + k.val, by omega⟩ = G k)
    (hout : ∀ k : Fin 256, k.val / 128 ≠ h.val → H k = 0) :
    ∑ k, X k * H k = ∑ k : Fin 128, X ⟨128 * h.val + k.val, by omega⟩ * G k := by
  have s : ∑ k, X k * H k = (∑ k : Fin 128, X (Fin.castAdd 128 k) * H (Fin.castAdd 128 k)) + ∑ k : Fin 128, X (Fin.natAdd 128 k) * H (Fin.natAdd 128 k) :=
    Fin.sum_univ_add (a := 128) (b := 128) (fun k : Fin (128 + 128) => X k * H k)
  rw [s]
  match h with
  | 0 =>
    have z : ∑ k : Fin 128, X (Fin.natAdd 128 k) * H (Fin.natAdd 128 k) = 0 := by
      refine Finset.sum_eq_zero fun k _ => ?_
      rw [hout _ (by show (128 + k.val) / 128 ≠ 0; omega), mul_zero]
    rw [z, add_zero]
    refine Finset.sum_congr rfl fun k _ => ?_
    have e : (Fin.castAdd 128 k : Fin 256) = ⟨128 * (0 : Fin 2).val + k.val, by show 128 * 0 + k.val < 256; omega⟩ :=
      Fin.ext (by show k.val = 128 * 0 + k.val; omega)
    rw [← hin k, e]
  | 1 =>
    have z : ∑ k : Fin 128, X (Fin.castAdd 128 k) * H (Fin.castAdd 128 k) = 0 := by
      refine Finset.sum_eq_zero fun k _ => ?_
      rw [hout _ (by show k.val / 128 ≠ 1; omega), mul_zero]
    rw [z, zero_add]
    refine Finset.sum_congr rfl fun k _ => ?_
    have e : (Fin.natAdd 128 k : Fin 256) = ⟨128 * (1 : Fin 2).val + k.val, by show 128 * 1 + k.val < 256; omega⟩ :=
      Fin.ext (by show 128 + k.val = 128 * 1 + k.val; omega)
    rw [← hin k, e]

/-- The exponent of a row's scale, from the row's largest magnitude: zero for a row of zeros. -/
def rowExp (a : EReal) : BitVec 32 := if a = 0 then 0#32 else expR (a * Ideal.ofBits .f32 991054117#32)

theorem inRange_rowExp (a : EReal) : InRange (rowExp a) := by
  unfold rowExp
  split
  · exact inRange_zero
  · exact inRange_expR _

/-- From the kernel's exponent, for a magnitude. -/
theorem rowExp_eq {a : EReal} (h : 0 ≤ a) : (if a = 0 then 0#32 else expK (a * Ideal.ofBits .f32 991054117#32)) = rowExp a := by
  unfold rowExp
  rw [expK_eq (mul_nonneg h recip_nonneg)]

end Cert.Numbers

end
-- ==== Proof.TableRows.lean ====
/- The kernel's printed 256 × 256 table against the reference's printed 128 × 128 table, word by word. -/
module

public import proofs.«01_k».proof.Proof.Gen.ReferenceIdeal
public import proofs.«01_k».proof.Proof.Gen.KernelIdeal

@[expose] public section

set_option maxRecDepth 16384

noncomputable section

namespace Cert.Tables

/-- The word of the kernel's table at row `k`, column `j`: the reference's inside a diagonal block, zero up to the sign outside. -/
abbrev Entry (k j : Fin 256) : Prop :=
  if k.val / 128 = j.val / 128 then
    KernelIdeal.lit0 ⟨k.val * 256 + j.val, by omega⟩ = ReferenceIdeal.lit0 ⟨k.val % 128 * 128 + j.val % 128, by omega⟩
  else KernelIdeal.lit0 ⟨k.val * 256 + j.val, by omega⟩ &&& 0x7FFF#16 = 0#16

/-- The same at the sixteen rows from `16 a` on. The tables are long: they are compared sixteen rows at a time. -/
abbrev Rows (a : Fin 16) : Prop := ∀ b : Fin 16, ∀ j : Fin 256, Entry ⟨16 * a.val + b.val, by omega⟩ j

theorem rows0 : Rows 0 := by decide +kernel
theorem rows1 : Rows 1 := by decide +kernel
theorem rows2 : Rows 2 := by decide +kernel
theorem rows3 : Rows 3 := by decide +kernel
theorem rows4 : Rows 4 := by decide +kernel
theorem rows5 : Rows 5 := by decide +kernel
theorem rows6 : Rows 6 := by decide +kernel
theorem rows7 : Rows 7 := by decide +kernel
theorem rows8 : Rows 8 := by decide +kernel
theorem rows9 : Rows 9 := by decide +kernel
theorem rows10 : Rows 10 := by decide +kernel
theorem rows11 : Rows 11 := by decide +kernel
theorem rows12 : Rows 12 := by decide +kernel
theorem rows13 : Rows 13 := by decide +kernel
theorem rows14 : Rows 14 := by decide +kernel
theorem rows15 : Rows 15 := by decide +kernel

theorem rows : ∀ a, Rows a
  | 0 => rows0 | 1 => rows1 | 2 => rows2 | 3 => rows3 | 4 => rows4 | 5 => rows5 | 6 => rows6 | 7 => rows7
  | 8 => rows8 | 9 => rows9 | 10 => rows10 | 11 => rows11 | 12 => rows12 | 13 => rows13 | 14 => rows14 | 15 => rows15
  | ⟨_ + 16, h⟩ => absurd h (by omega)

end Cert.Tables

end
-- ==== Proof.Tables.lean ====
/- The two printed Hadamard tables: the kernel's 256 × 256 matrix carries the reference's 128 × 128 matrix on each of its two diagonal blocks, and a zero
   (of either sign) off them; and the reference's 254 powers of two are the exponent fields from one on. -/
module

public import proofs.«01_k».proof.Proof.TableRows
public import proofs.«01_k».proof.Proof.Exponent

@[expose] public section

set_option maxRecDepth 16384

noncomputable section

namespace Cert.Tables

open Idealize.ShloMosaic

/-- Every entry of the kernel's table. -/
theorem entry (k j : Fin 256) : Entry k j := by
  have h := rows ⟨k.val / 16, by omega⟩ ⟨k.val % 16, by omega⟩ j
  have e : (⟨16 * (k.val / 16) + k.val % 16, by omega⟩ : Fin 256) = k := Fin.ext (Nat.div_add_mod _ _)
  rwa [e] at h

/-- A word that is zero up to its sign is the number zero. -/
theorem ofBits_of_signless {w : BitVec 16} (h : w &&& 0x7FFF#16 = 0#16) : Ideal.ofBits .bf16 w = 0 := by
  have e : w = 0#16 ∨ w = 0x8000#16 := by
    have hn := congrArg BitVec.toNat h
    rw [BitVec.toNat_and, show (0x7FFF#16).toNat = 2 ^ 15 - 1 from rfl, Nat.and_two_pow_sub_one_eq_mod] at hn
    have hl := w.isLt
    have : w.toNat = 0 ∨ w.toNat = 32768 := by
      have h0 : w.toNat % 2 ^ 15 = 0 := hn
      omega
    rcases this with t | t
    · exact .inl (BitVec.eq_of_toNat_eq t)
    · exact .inr (BitVec.eq_of_toNat_eq t)
  rcases e with rfl | rfl <;> simp [Ideal.ofBits, Ideal.ieee]

/-- The words of the reference's powers are the exponent fields 1 to 254. -/
theorem powers : ∀ x : Fin 254, ReferenceIdeal.lit1 x = IntOp.shli ArithUnit.vector (BitVec.ofNat 32 (x.val + 1)) 23#32 := by
  decide +kernel

end Cert.Tables

end
-- ==== Proof.ReferenceAt.lean ====
/- The reference's words at an index, as numbers. -/
module

public import proofs.«01_k».proof.Proof.Reference
public import proofs.«01_k».proof.Proof.Numbers
public import proofs.«01_k».proof.Proof.Tables

@[expose] public section

set_option maxRecDepth 16384

noncomputable section

namespace Cert.ReferenceIdeal.Words

open Cert.ReferenceIdeal Cert.ReferenceIdeal.Gen Idealize.ShloMosaic Idealize.ShloMosaic.TcCoe Idealize.SL.Sem

/-- A rotated entry: the sum over the 128 columns of its block, times the norm. -/
theorem rot_at (x : FVec Ideal S4x4096x16384 .bf16) (r j : Fin 16384) :
    rot x (ix2 r j) = (∑ k : Fin 128, x (ix3 ⟨r.val / 4096, by omega⟩ ⟨r.val % 4096, by omega⟩ ⟨j.val / 128 * 128 + k.val, by omega⟩)
      * had (ix2 k ⟨j.val % 128, by omega⟩)) * Ideal.ofBits .f32 1035273459#32 := by
  unfold rot
  generalize had = H
  pointwise

/-- An entry of the Hadamard matrix, by its word in the table. -/
theorem had_at (k j : Fin 128) : had (ix2 k j) = Ideal.ofBits .bf16 (lit0 ⟨k.val * 128 + j.val, by omega⟩) := by
  unfold had
  have e : S128x128.rowMajor (ix2 k j) = ⟨k.val * 128 + j.val, by show _ < 128 * 128; omega⟩ := Fin.ext (Shape.rowMajor_val_two _)
  rw [e]
  rfl

/-- The row maximum is the least bound of the row's magnitudes. -/
theorem amax_le (R : FVec Ideal S16384x16384 .f32) (r : Fin 16384) (b : EReal) :
    amax R (ix2 r 0) ≤ b ↔ ∀ j : Fin 16384, FloatOps.absf (F := Ideal) (R (ix2 r j)) ≤ b := by
  have h : amax R (ix2 r 0) = Finset.fold max (Ideal.ofBits FTy.f32 4286578688#32) (fun j => FloatOps.absf (F := Ideal) (R (ix2 r j))) Finset.univ := by
    unfold amax
    pointwise
  rw [h, Finset.fold_max_le, Numbers.ofBits_negInf]
  simp

theorem amax_nonneg (R : FVec Ideal S16384x16384 .f32) (r : Fin 16384) : 0 ≤ amax R (ix2 r 0) :=
  le_trans (Numbers.absf_nonneg _) ((amax_le R r _).mp le_rfl 0)

/-- The count is the count of powers reached. -/
theorem count_at (v : FVec Ideal S16384x1 .f32) (r : Fin 16384) : count v (ix2 r 0) = Exponent.count (v (ix2 r 0)) := by
  have h : count v (ix2 r 0) = Finset.fold IntOp.addi (0#32)
      (fun k : Fin 254 => BitVec.setWidth 32 (BitVec.ofBool (decide (Ideal.ofBits FTy.f32 (lit1 (S254.rowMajor (ix1 k))) ≤ v (ix2 r 0))))) Finset.univ := by
    unfold count
    pointwise
  rw [h]
  unfold Exponent.count
  refine Finset.fold_congr fun k _ => ?_
  have e : S254.rowMajor (ix1 k) = k := Fin.ext (Shape.rowMajor_val_one _)
  rw [e, Tables.powers]
  rfl

/-- The exponent of a row's scale. -/
theorem rowExp_at (a : FVec Ideal S16384x1 .f32) (r : Fin 16384) : rowExp a (ix2 r 0) = Numbers.rowExp (a (ix2 r 0)) := by
  unfold rowExp expOf
  have hc := count_at (scaled a) r
  have hs : scaled a (ix2 r 0) = a (ix2 r 0) * Ideal.ofBits .f32 991054117#32 := by
    unfold scaled
    pointwise
  rw [hs] at hc
  generalize count (scaled a) = C at hc
  generalize scaled a = v at hs
  pointwise
  rw [hc, hs, Numbers.ofBits_inf]
  rfl

/-- The power of two. -/
theorem power_at (n : IVec S16384x1 32) (r : Fin 16384) : power n (ix2 r 0) = Exponent.powR (n (ix2 r 0)) := by
  unfold power
  pointwise
  show Scalar.select _ (Ideal.ofBits .f32 0#32) (Scalar.select _ (Ideal.ofBits .f32 2139095040#32) _) = _
  rw [Numbers.ofBits_inf, Ideal.ofBits_zero_f32]
  rfl

/-- A code: the entry over its row's scale, cut to the range of the codes. -/
theorem codes_at (R : FVec Ideal S16384x16384 .f32) (inv : FVec Ideal S16384x1 .f32) (r j : Fin 16384) :
    codes R inv (ix2 r j) = min (Ideal.ofBits .f32 1138753536#32) (max (Ideal.ofBits .f32 3286237184#32) (R (ix2 r j) * inv (ix2 r 0))) := by
  unfold codes
  pointwise
  rfl

/-- The scales at a row. -/
theorem scales_at (x : FVec Ideal S4x4096x16384 .bf16) (r : Fin 16384) :
    power (rowExp (amax (rot x))) (ix2 r 0) = Exponent.powR (Numbers.rowExp (amax (rot x) (ix2 r 0))) := by
  rw [power_at, rowExp_at]

/-- The inverse scales at a row. -/
theorem inv_at (x : FVec Ideal S4x4096x16384 .bf16) (r : Fin 16384) :
    power (negi (rowExp (amax (rot x)))) (ix2 r 0) = Exponent.powR (IntOp.subi 0#32 (Numbers.rowExp (amax (rot x) (ix2 r 0)))) := by
  rw [power_at, ← rowExp_at]
  show Exponent.powR (-(rowExp (amax (rot x)) (ix2 r 0))) = Exponent.powR (0#32 - rowExp (amax (rot x)) (ix2 r 0))
  rw [BitVec.zero_sub]

end Cert.ReferenceIdeal.Words

end
-- ==== Proof.Rows.lean ====
/- The kernel body's words at an index, as numbers: the entries of a rotated block, the row maximum as the least bound of their magnitudes, the scale and
   its inverse from the row maximum, the codes. -/
module

public import proofs.«01_k».proof.Proof.Chunks
public import proofs.«01_k».proof.Proof.ReferenceAt

@[expose] public section

set_option maxRecDepth 16384

noncomputable section

namespace Cert.KernelIdeal.Body

open Cert.KernelIdeal Cert.KernelIdeal.Gen Idealize.ShloMosaic Idealize.ShloMosaic.TcCoe Idealize.SL.Sem
open Cert.ReferenceIdeal.Words (had had_at)

/-- The matrix operand holds the kernel's table. -/
def Holds (x1 : Vec Ideal S256x256 .bf16) : Prop :=
  ∀ k j : Fin 256, x1 (ix2 k j) = Ideal.ofBits .bf16 (lit0 ⟨k.val * 256 + j.val, by omega⟩)

/-- An entry of the rotated block: the sum over the 128 columns around it against the Hadamard matrix, times the norm. -/
def entry (x0 : Vec Ideal S128x16384 .bf16) (r : Fin 128) (J : Fin 16384) : EReal :=
  (∑ k : Fin 128, x0 (ix2 r ⟨J.val / 128 * 128 + k.val, by omega⟩) * had (ix2 k ⟨J.val % 128, by omega⟩)) * Ideal.ofBits .f32 1035273459#32

/-- A rotated chunk holds the entries of its columns: what lies off the diagonal blocks of the matrix adds nothing. -/
theorem rot_at (x0 : Vec Ideal S128x16384 .bf16) (x1 : Vec Ideal S256x256 .bf16) (hx : Holds x1) (n : ℕ) (h : n < 64) (r : Fin 128) (j : Fin 256) :
    rot x1 (chunk x0 n h) (ix2 r j) = entry x0 r ⟨256 * n + j.val, by omega⟩ := by
  have e : rot x1 (chunk x0 n h) (ix2 r j) = (∑ k : Fin 256, chunk x0 n h (ix2 r k) * x1 (ix2 k j)) * Ideal.ofBits .f32 1035273459#32 := by
    generalize chunk x0 n h = xc
    unfold rot
    pointwise [k0_pay3]
  have hc : ∀ k : Fin 256, chunk x0 n h (ix2 r k) = x0 (ix2 r ⟨256 * n + k.val, by omega⟩) := by
    intro k
    unfold chunk
    pointwise
  rw [e]
  unfold entry
  congr 1
  refine (Numbers.sum_block (fun k => chunk x0 n h (ix2 r k)) (fun k => x1 (ix2 k j)) ⟨j.val / 128, by omega⟩
    (fun k => had (ix2 k ⟨j.val % 128, by omega⟩)) (fun k => ?_) (fun k hk => ?_)).trans ?_
  · have t := Tables.entry ⟨128 * (j.val / 128) + k.val, by omega⟩ j
    unfold Tables.Entry at t
    rw [if_pos (by show (128 * (j.val / 128) + k.val) / 128 = j.val / 128; omega)] at t
    rw [had_at]
    refine (hx _ _).trans ?_
    refine (congrArg (Ideal.ofBits .bf16) t).trans ?_
    congr 2
    exact Fin.ext (by show (128 * (j.val / 128) + k.val) % 128 * 128 + j.val % 128 = k.val * 128 + j.val % 128; omega)
  · have t := Tables.entry k j
    unfold Tables.Entry at t
    rw [if_neg hk] at t
    exact (hx k j).trans (Tables.ofBits_of_signless t)
  · refine Finset.sum_congr rfl fun k _ => ?_
    rw [hc]
    have e1 : (⟨256 * n + (128 * (j.val / 128) + k.val), by omega⟩ : Fin 16384) = ⟨(256 * n + j.val) / 128 * 128 + k.val, by omega⟩ :=
      Fin.ext (by show 256 * n + (128 * (j.val / 128) + k.val) = (256 * n + j.val) / 128 * 128 + k.val; omega)
    have e2 : (⟨j.val % 128, by omega⟩ : Fin 128) = ⟨(256 * n + j.val) % 128, by omega⟩ :=
      Fin.ext (by show j.val % 128 = (256 * n + j.val) % 128; omega)
    exact congrArg₂ (· * ·) (congrArg (fun q => x0 (ix2 r q)) e1) (congrArg (fun q => had (ix2 k q)) e2)

/-- After `n` chunks a lane is the least bound, from zero on, of the magnitudes it has met. -/
theorem lanes_le (x0 : Vec Ideal S128x16384 .bf16) (x1 : Vec Ideal S256x256 .bf16) (hx : Holds x1) (r l : Fin 128) (b : EReal) :
    ∀ (n : ℕ) (h : n ≤ 64), lanes x0 x1 n h (ix2 r l) ≤ b ↔ 0 ≤ b ∧ ∀ (i : ℕ) (hi : i < n),
      FloatOps.absf (F := Ideal) (φ := .f32) (entry x0 r ⟨256 * i + l.val, by omega⟩) ≤ b
      ∧ FloatOps.absf (F := Ideal) (φ := .f32) (entry x0 r ⟨256 * i + (128 + l.val), by omega⟩) ≤ b
  | 0, _ => by
    have e : lanes x0 x1 0 (Nat.zero_le _) (ix2 r l) = 0 := by
      show Ideal.ofBits .f32 0x00000000#32 = 0
      exact Ideal.ofBits_zero_f32
    rw [e]
    simp
  | n + 1, h => by
    have hh : ∀ R : FVec Ideal S128x256 .f32, halves R (ix2 r l) = max (FloatOps.absf (F := Ideal) (φ := .f32) (R (ix2 r ⟨l.val, by omega⟩)))
        (FloatOps.absf (F := Ideal) (φ := .f32) (R (ix2 r ⟨128 + l.val, by omega⟩))) := by
      intro R
      unfold halves
      pointwise
    have e : lanes x0 x1 (n + 1) h (ix2 r l) = max (lanes x0 x1 n (Nat.le_of_succ_le h) (ix2 r l)) (halves (rot x1 (chunk x0 n h)) (ix2 r l)) := rfl
    rw [e, max_le_iff, lanes_le x0 x1 hx r l b n (Nat.le_of_succ_le h), hh, rot_at x0 x1 hx, rot_at x0 x1 hx, max_le_iff]
    constructor
    · rintro ⟨⟨h0, hn⟩, hl⟩
      refine ⟨h0, fun i hi => ?_⟩
      rcases Nat.lt_succ_iff_lt_or_eq.mp hi with hi | rfl
      · exact hn i hi
      · exact hl
    · rintro ⟨h0, hn⟩
      exact ⟨⟨h0, fun i hi => hn i (by omega)⟩, hn n (by omega)⟩

/-- The row maximum is the least bound of the magnitudes of the row's entries. -/
theorem rowMax_le (x0 : Vec Ideal S128x16384 .bf16) (x1 : Vec Ideal S256x256 .bf16) (hx : Holds x1) (r : Fin 128) (b : EReal) :
    rowMax x0 x1 (ix2 r 0) ≤ b ↔ ∀ J : Fin 16384, FloatOps.absf (F := Ideal) (φ := .f32) (entry x0 r J) ≤ b := by
  have e : rowMax x0 x1 (ix2 r 0) = Finset.fold max (Ideal.ofBits .f32 4286578688#32) (fun l => lanes x0 x1 64 (le_refl 64) (ix2 r l)) Finset.univ := by
    unfold rowMax
    generalize lanes x0 x1 64 _ = L
    pointwise
  rw [e, Finset.fold_max_le, Numbers.ofBits_negInf]
  constructor
  · rintro ⟨-, hl⟩ J
    obtain ⟨-, hl⟩ := (lanes_le x0 x1 hx r ⟨J.val % 128, by omega⟩ b 64 (le_refl 64)).mp (hl _ (Finset.mem_univ _))
    obtain ⟨h1, h2⟩ := hl (J.val / 256) (by omega)
    rcases (by omega : J.val % 256 < 128 ∨ 128 ≤ J.val % 256) with hj | hj
    · have q : (⟨256 * (J.val / 256) + J.val % 128, by omega⟩ : Fin 16384) = J := Fin.ext (by show 256 * (J.val / 256) + J.val % 128 = J.val; omega)
      rwa [q] at h1
    · have q : (⟨256 * (J.val / 256) + (128 + J.val % 128), by omega⟩ : Fin 16384) = J :=
        Fin.ext (by show 256 * (J.val / 256) + (128 + J.val % 128) = J.val; omega)
      rwa [q] at h2
  · intro hJ
    refine ⟨bot_le, fun l _ => ?_⟩
    rw [lanes_le x0 x1 hx]
    exact ⟨le_trans (Numbers.absf_nonneg _) (hJ 0), fun i hi => ⟨hJ _, hJ _⟩⟩

theorem rowMax_nonneg (x0 : Vec Ideal S128x16384 .bf16) (x1 : Vec Ideal S256x256 .bf16) (hx : Holds x1) (r : Fin 128) : 0 ≤ rowMax x0 x1 (ix2 r 0) :=
  le_trans (Numbers.absf_nonneg _) ((rowMax_le x0 x1 hx r _).mp le_rfl 0)

/-- The exponent of a row maximum over the largest code. -/
theorem expOf_at (a : FVec Ideal S128x1 .f32) (r : Fin 128) : expOf a (ix2 r 0) = Exponent.expK (a (ix2 r 0) * Ideal.ofBits .f32 991054117#32) := by
  unfold expOf
  pointwise
  rfl

/-- The scale of a row from its maximum. -/
theorem scaleOf_at (a : FVec Ideal S128x1 .f32) (r : Fin 128) (h : 0 ≤ a (ix2 r 0)) :
    scaleOf a (ix2 r 0) = Exponent.powR (Numbers.rowExp (a (ix2 r 0))) := by
  rw [← Exponent.pow_of_inRange (Numbers.inRange_rowExp _), ← Numbers.rowExp_eq h, ← expOf_at]
  unfold scaleOf
  generalize expOf a = e
  pointwise [k0_pay155, k0_pay154]
  rfl

/-- The inverse scale of a row from its maximum. -/
theorem invOf_at (a : FVec Ideal S128x1 .f32) (r : Fin 128) (h : 0 ≤ a (ix2 r 0)) :
    invOf a (ix2 r 0) = Exponent.powR (IntOp.subi 0#32 (Numbers.rowExp (a (ix2 r 0)))) := by
  rw [← Exponent.pow_neg_of_inRange (Numbers.inRange_rowExp _), ← Numbers.rowExp_eq h, ← expOf_at]
  unfold invOf
  generalize expOf a = e
  pointwise [k0_pay156, k0_pay154]
  rfl

/-- A code of the block: the entry over its row's scale, cut to the range of the codes. -/
theorem codeAt_at (x0 : Vec Ideal S128x16384 .bf16) (x1 : Vec Ideal S256x256 .bf16) (hx : Holds x1) (inv : FVec Ideal S128x1 .f32) (r : Fin 128)
    (J : Fin 16384) : codeAt x0 x1 inv (ix2 r J) = min (Ideal.ofBits .f32 1138753536#32) (max (Ideal.ofBits .f32 3286237184#32)
      (entry x0 r J * inv (ix2 r 0))) := by
  have hc : ∀ (R : FVec Ideal S128x256 .f32) (j : Fin 256), codes inv R (ix2 r j) = min (Ideal.ofBits .f32 1138753536#32)
      (max (Ideal.ofBits .f32 3286237184#32) (R (ix2 r j) * inv (ix2 r 0))) := by
    intro R j
    unfold codes
    pointwise [k0_pay2]
  have hr := rot_at x0 x1 hx (J.val / 256) (by omega) r ⟨J.val % 256, by omega⟩
  have q : (⟨256 * (J.val / 256) + J.val % 256, by omega⟩ : Fin 16384) = J := Fin.ext (Nat.div_add_mod _ _)
  rw [q] at hr
  rw [← hr]
  exact hc _ ⟨J.val % 256, by omega⟩

end Cert.KernelIdeal.Body

end
-- ==== Proof.Arrays.lean ====
/- The kernel's two result arrays as functions of the argument: the blocks are gathered and every entry is the reference's. -/
module

public import proofs.«01_k».proof.Proof.Rows
public import Idealize.ShloMosaic.Lib.Pipeline.ValueKit
public import Idealize.ShloMosaic.Lib.Claim

@[expose] public section

set_option maxRecDepth 16384

noncomputable section

namespace Cert.KernelIdeal.Body

open Cert.KernelIdeal Cert.KernelIdeal.Gen Idealize.ShloMosaic Idealize.ShloMosaic.TcCoe Idealize.SL.Sem
open Cert.ReferenceIdeal.Words (amax power rowExp)

variable (m : (ℓ : Loc nD τ sig) → Buf (Elt Ideal) ℓ) (c : Dev nD)

/-- Where the windows lie at grid point `t`: rows `128 t` on of the argument and of both results; the matrix whole. -/
theorem idx_facts : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, win0_0.index t = ![t.val, 0] ∧ win0_1.index t = ![0, 0] ∧ win0_2.index t = ![t.val, 0]
    ∧ win0_3.index t = ![t.val, 0])

theorem lt_grid (t : Fin cfg0.N) : t.val < 128 := t.isLt

/-- The rows of the block at point `t` are the argument's rows `128 t` on. -/
theorem x_at (t : Fin cfg0.N) (r : Fin 128) (j : Fin 16384) (R : Fin 16384) (hR : R.val = 128 * t.val + r.val) :
    iblk m c 0 t (ix2 r j) = m ((c.tc : Thread nD τ).loc main_arg0) (ix3 ⟨R.val / 4096, by omega⟩ ⟨R.val % 4096, by omega⟩ j) := by
  have e := (idx_facts t).1
  have e0 : win0_0.index t (0 : Fin 2) = t.val := by rw [e]; rfl
  have e1 : win0_0.index t (1 : Fin 2) = 0 := by rw [e]; rfl
  have p : ((cfg0.win 0).blk t).view.emb (ix2 r j) = ix2 R j := by
    funext a; apply Fin.ext
    match a with
    | ⟨0, _⟩ => show win0_0.index t (0 : Fin 2) * 128 + 1 * r.val = R.val; omega
    | ⟨1, _⟩ => show win0_0.index t (1 : Fin 2) * 16384 + 1 * j.val = j.val; omega
  show V m c main_v0 (((cfg0.win 0).blk t).view.emb (ix2 r j)) = _
  rw [p]
  entry_read
  pointwise

/-- The matrix operand is the kernel's table. -/
theorem holds (t : Fin cfg0.N) : Holds (iblk m c 1 t) := by
  intro k j
  have e := (idx_facts t).2.1
  have e0 : win0_1.index t (0 : Fin 2) = 0 := by rw [e]; rfl
  have e1 : win0_1.index t (1 : Fin 2) = 0 := by rw [e]; rfl
  have p : ((cfg0.win 1).blk t).view.emb (ix2 k j) = ix2 k j := by
    funext a; apply Fin.ext
    match a with
    | ⟨0, _⟩ => show win0_1.index t (0 : Fin 2) * 256 + 1 * k.val = k.val; omega
    | ⟨1, _⟩ => show win0_1.index t (1 : Fin 2) * 256 + 1 * j.val = j.val; omega
  show V m c main_cst (((cfg0.win 1).blk t).view.emb (ix2 k j)) = _
  rw [p]
  entry_read
  have q : S256x256.rowMajor (ix2 k j) = ⟨k.val * 256 + j.val, by show _ < 256 * 256; omega⟩ := Fin.ext (Shape.rowMajor_val_two _)
  show Ideal.ofBits .bf16 (lit0 (S256x256.rowMajor (ix2 k j))) = _
  rw [q]

/-- The argument, as the reference's words take it. -/
abbrev arg : FVec Ideal ReferenceIdeal.S4x4096x16384 .bf16 := m ((c.tc : Thread nD τ).loc main_arg0)

/-- An entry of the rotated block is the reference's rotated entry. -/
theorem entry_eq (t : Fin cfg0.N) (r : Fin 128) (J R : Fin 16384) (hR : R.val = 128 * t.val + r.val) :
    entry (iblk m c 0 t) r J = ReferenceIdeal.Words.rot (arg m c) (ix2 R J) := by
  rw [ReferenceIdeal.Words.rot_at]
  unfold entry
  congr 1
  refine Finset.sum_congr rfl fun k _ => ?_
  rw [x_at m c t r _ R hR]

/-- The row maxima agree: both are the least bound of the same magnitudes. -/
theorem rowMax_eq (t : Fin cfg0.N) (r : Fin 128) (R : Fin 16384) (hR : R.val = 128 * t.val + r.val) :
    rowMax (iblk m c 0 t) (iblk m c 1 t) (ix2 r 0) = amax (ReferenceIdeal.Words.rot (arg m c)) (ix2 R 0) := by
  refine eq_of_forall_ge_iff fun b => ?_
  rw [rowMax_le _ _ (holds m c t)]
  refine Iff.trans ?_ (ReferenceIdeal.Words.amax_le _ R b).symm
  refine forall_congr' fun J => ?_
  rw [entry_eq m c t r J R hR]

/-- Row `r` of the block at point `t` is row `128 t + r` of the results. -/
theorem row (t : Fin cfg0.N) (r : Fin 128) : ∃ R : Fin 16384, R.val = 128 * t.val + r.val :=
  ⟨⟨128 * t.val + r.val, by have := lt_grid t; omega⟩, rfl⟩

/-- THE SCALES after the kernel's run are the reference's. -/
theorem final_scales : (dats m 0 c).arrAt 2 cfg0.N = power (rowExp (amax (ReferenceIdeal.Words.rot (arg m c)))) := by
  refine (dats m 0 c).arrAt_eq_of_covers 2 _ (by decide +kernel) fun t hf y => ?_
  idx_vars y
  blk_simp
  obtain ⟨R, hR⟩ := row t y0
  have e := (idx_facts t).2.2.1
  have e0 : win0_2.index t (0 : Fin 2) = t.val := by rw [e]; rfl
  have e1 : win0_2.index t (1 : Fin 2) = 0 := by rw [e]; rfl
  obtain rfl : y1 = 0 := Subsingleton.elim _ _
  have p : (win0_2.blk t).view.emb (ix2 y0 0) = ix2 R 0 := by
    funext a; apply Fin.ext
    match a with
    | ⟨0, _⟩ => show win0_2.index t (0 : Fin 2) * 128 + 1 * y0.val = R.val; omega
    | ⟨1, _⟩ => show win0_2.index t (1 : Fin 2) * 1 + 1 * 0 = 0; omega
  rw [p, after0_2, out_scales, scaleOf_at _ _ (rowMax_nonneg _ _ (holds m c t) y0), rowMax_eq m c t y0 R hR]
  exact (ReferenceIdeal.Words.scales_at _ R).symm

/-- THE CODES after the kernel's run are the reference's. -/
theorem final_codes : (dats m 0 c).arrAt 3 cfg0.N = ReferenceIdeal.Words.codes (ReferenceIdeal.Words.rot (arg m c))
    (power (negi (rowExp (amax (ReferenceIdeal.Words.rot (arg m c)))))) := by
  refine (dats m 0 c).arrAt_eq_of_covers 3 _ (by decide +kernel) fun t hf y => ?_
  idx_vars y
  blk_simp
  obtain ⟨R, hR⟩ := row t y0
  have e := (idx_facts t).2.2.2
  have e0 : win0_3.index t (0 : Fin 2) = t.val := by rw [e]; rfl
  have e1 : win0_3.index t (1 : Fin 2) = 0 := by rw [e]; rfl
  have p : (win0_3.blk t).view.emb (ix2 y0 y1) = ix2 R y1 := by
    funext a; apply Fin.ext
    match a with
    | ⟨0, _⟩ => show win0_3.index t (0 : Fin 2) * 128 + 1 * y0.val = R.val; omega
    | ⟨1, _⟩ => show win0_3.index t (1 : Fin 2) * 16384 + 1 * y1.val = y1.val; omega
  rw [p, after0_3, out_codes, codeAt_at _ _ (holds m c t), invOf_at _ _ (rowMax_nonneg _ _ (holds m c t) y0), rowMax_eq m c t y0 R hR,
    entry_eq m c t y0 y1 R hR]
  refine Eq.trans ?_ (ReferenceIdeal.Words.codes_at _ _ R y1).symm
  rw [ReferenceIdeal.Words.inv_at]

end Cert.KernelIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Arrays
public import Idealize.ShloMosaic.Adequacy
public import Idealize.ShloMosaic.Init

@[expose] public section

noncomputable section

namespace Cert.Proof

open Idealize.ShloMosaic Idealize.SL.Sem Cert.Kernel

/-- The reference runs and keeps its argument; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The idealized kernel and the idealized reference end with equal scales and equal codes: both are the reference's words of the argument. -/
theorem algebraic : Cert.algebraic_KernelIdeal_ReferenceIdeal (hKernelIdeal := Cert.KernelIdeal.Gen.facts)
    (hReferenceIdeal := Cert.ReferenceIdeal.Gen.facts) := by
  intro m ρ m' ρ' _ hag
  refine ⟨fun c => (Cert.KernelIdeal.Gen.dats m 0 c).arrAt 2 Cert.KernelIdeal.cfg0.N, fun c => (Cert.KernelIdeal.Gen.dats m 0 c).arrAt 3 Cert.KernelIdeal.cfg0.N,
    Cert.KernelIdeal.Value.run_blocks m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · refine (Cert.ReferenceIdeal.Words.out_scales m' c).trans ?_
    rw [hag c]
    exact (Cert.KernelIdeal.Body.final_scales m c).symm
  · refine (Cert.ReferenceIdeal.Words.out_codes m' c).trans ?_
    rw [hag c]
    exact (Cert.KernelIdeal.Body.final_codes m c).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
